-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_attended [hPre_rows_attended : Cert.Pre_rows_attended.Facts] (m : (ℓ : Loc Cert.KernelIdeal.nD Cert.KernelIdeal.τ Cert.KernelIdeal.sig) → Buf (Elt Ideal) ℓ) : Prop :=
  ∀ c : Dev Cert.KernelIdeal.nD,
    (Cert.Pre_rows_attended.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_attended [hPre_rows_attended : Cert.Pre_rows_attended.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_attended.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rows_attended [hKernelIdeal : Cert.KernelIdeal.Facts] [hPre_rows_attended : Cert.Pre_rows_attended.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_attended m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_attended [hReferenceIdeal : Cert.ReferenceIdeal.Facts] [hPre_rows_attended : Cert.Pre_rows_attended.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_attended m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_rows_attended [hKernelIdeal : Cert.KernelIdeal.Facts] [hReferenceIdeal : Cert.ReferenceIdeal.Facts] [hPre_rows_attended : Cert.Pre_rows_attended.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_attended m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_attended : Cert.Pre_rows_attended.Facts),
    quiescent_Kernel (hKernel := hKernel)
    ∧ quiescent_KernelIdeal (hKernelIdeal := hKernelIdeal)
    ∧ quiescent_KernelIdeal_pre_rows_attended (hKernelIdeal := hKernelIdeal) (hPre_rows_attended := hPre_rows_attended)
    ∧ quiescent_ReferenceIdeal (hReferenceIdeal := hReferenceIdeal)
    ∧ quiescent_ReferenceIdeal_pre_rows_attended (hReferenceIdeal := hReferenceIdeal) (hPre_rows_attended := hPre_rows_attended)
    ∧ preserves_Kernel_KernelIdeal
    ∧ algebraic_KernelIdeal_ReferenceIdeal_pre_rows_attended (hKernelIdeal := hKernelIdeal) (hReferenceIdeal := hReferenceIdeal) (hPre_rows_attended := hPre_rows_attended)
-- ==== Pre_rows_attended.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S_ : Shape := ⟨0, ![]⟩
abbrev S16 : Shape := ⟨1, ![16]⟩

class Facts : Prop where
  reducesTo_S16x2048_S16_d1 : S16x2048.ReducesTo [1] S16
  h_S_ : 0 < S_.numel
  reducesTo_S16_S_d0 : S16.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x2048x1024 .f32) (main_arg1 : IVec S16x2048 1) (main_arg2 : FVec F S1024x1024 .f32) (main_arg3 : FVec F S1024 .f32) (main_arg4 : FVec F S1024x1024 .f32) (main_arg5 : FVec F S1024 .f32) : IVec S_ 1 :=
  let main_c : IVec S_ 1 := constantI S_ 1 0#1
  let main_v0 : IVec S16 1 := (fun x v => Host.reduce IntOp.ori x v reducesTo_S16x2048_S16_d1 h_S_) main_arg1 main_c
  let main_c_0 : IVec S_ 1 := constantI S_ 1 1#1
  let main_v1 : IVec S_ 1 := (fun x v => Host.reduce IntOp.andi x v reducesTo_S16_S_d0 h_S_) main_v0 main_c_0
  let main_v2 : FVec F S1024 .f32 := Host.absf main_arg3
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v1 main_v5
  main_v6
-- ==== Kernel.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S16x2048x1 : Shape := ⟨3, ![16, 2048, 1]⟩
abbrev S16x2x1024x1024 : Shape := ⟨4, ![16, 2, 1024, 1024]⟩
abbrev S1x1024 : Shape := ⟨2, ![1, 1024]⟩
abbrev S16x1024 : Shape := ⟨2, ![16, 1024]⟩
abbrev S1x1x1024x1024 : Shape := ⟨4, ![1, 1, 1024, 1024]⟩
abbrev S2x2048x1 : Shape := ⟨3, ![2, 2048, 1]⟩
abbrev S16x1 : Shape := ⟨2, ![16, 1]⟩
abbrev S1x2048x1 : Shape := ⟨3, ![1, 2048, 1]⟩
abbrev S2048x1 : Shape := ⟨2, ![2048, 1]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 13
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S16x2048, .f32⟩
  | .hbm, ⟨7, _⟩ => ⟨S16x2048x1, .f32⟩
  | .hbm, ⟨8, _⟩ => ⟨S16x2x1024x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S2x2048x1, .f32⟩
  | .local _ .vmem, ⟨9, _⟩ => ⟨S2x2048x1, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | .local _ .vmem, ⟨13, _⟩ => ⟨S1x1024, .f32⟩
  | .local _ .vmem, ⟨14, _⟩ => ⟨S16x1024, .f32⟩
  | .local _ .vmem, ⟨15, _⟩ => ⟨S16x1024, .f32⟩
  | .local _ .vmem, ⟨16, _⟩ => ⟨S16x1, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c2_i32 : BitVec 32 := 2#32
  let v34 : BitVec 32 := Scalar.muli arg0 c2_i32
  let v35 : BitVec 32 := Scalar.addi v34 c0_i32
  let v46 : Index := Scalar.indexCast v35
  let c0_23 : Index := 0#32
  ![v46.toNat, 0]
def k0_off2 (i : grid0.Coords) (c0_i32 : BitVec 32) : Fin 2 → Nat :=
  let arg0 : BitVec 32 := BitVec.ofNat 32 (i 0).val
  let c2_i32 : BitVec 32 := 2#32
  let v34 : BitVec 32 := Scalar.muli arg0 c2_i32
  let v35 : BitVec 32 := Scalar.addi v34 c0_i32
  let v55 : Index := Scalar.indexCast v35
  let c0_26 : Index := 0#32
  ![v55.toNat, 0]
def k0_cond1 (i : grid0.Coords) : BitVec 1 :=
  let arg0 : BitVec 32 := BitVec.ofNat 32 (i 0).val
  let c7_i32 : BitVec 32 := 7#32
  let v118 : BitVec 1 := Scalar.cmpi .eq arg0 c7_i32
  let v119 : BitVec 32 := Scalar.extui v118
  let c0_i32_56 : BitVec 32 := 0#32
  let v120 : BitVec 1 := Scalar.cmpi .ne v119 c0_i32_56
  v120

def cc0_transform_0 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c1_i32 : BitVec 32 := 1#32
  let c0_i32_0 : BitVec 32 := 0#32
  let c0_i32_1 : BitVec 32 := 0#32
  let c0_i32_2 : BitVec 32 := 0#32
  ![v1.toNat, c1_i32.toNat, c0_i32_0.toNat, c0_i32_1.toNat]

def cc0_transform_2 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c1_i32_0 : BitVec 32 := 1#32
  let c0_i32 : BitVec 32 := 0#32
  let c0_i32_1 : BitVec 32 := 0#32
  let c0_i32_2 : BitVec 32 := 0#32
  ![v1.toNat, c1_i32_0.toNat, c0_i32.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S_ : Shape := ⟨0, ![]⟩
abbrev S16 : Shape := ⟨1, ![16]⟩
abbrev S16x1 : Shape := ⟨2, ![16, 1]⟩
abbrev S16x1024 : Shape := ⟨2, ![16, 1024]⟩
abbrev S1x1024 : Shape := ⟨2, ![1, 1024]⟩

abbrev nBuf : Space → Nat
  | .hbm => 30
  | .vmem => 3
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S16x2048, .f32⟩
  | .hbm, ⟨7, _⟩ => ⟨S16x2048x1024, .f32⟩
  | .hbm, ⟨8, _⟩ => ⟨S16x2048x1024, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S16x2048, .f32⟩
  | .hbm, ⟨24, _⟩ => ⟨S16x2048, .f32⟩
  | .hbm, ⟨25, _⟩ => ⟨S16x1024, .f32⟩
  | .hbm, ⟨26, _⟩ => ⟨S16x1024, .f32⟩
  | .hbm, ⟨27, _⟩ => ⟨S1x1024, .f32⟩
  | .hbm, ⟨28, _⟩ => ⟨S16x1024, .f32⟩
  | .hbm, ⟨29, _⟩ => ⟨S16x1024, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Skeleton
public import Idealize.ShloMosaic.Lib.WritesUnit
public import Idealize.ShloMosaic.Lib.Pipeline.Value
public import Idealize.ShloMosaic.Lib.Pointwise.Index

/-!
# One grid point of the attention pooling kernel

Point `i` handles batch rows `2 i` and `2 i + 1`.  It computes, for each of the two, the unnormalised pooled vector (a row
of the 16 × 1024 scratch) and the sum of the unnormalised weights (a row of the 16 × 1 scratch), and stores these two rows
of each scratch.  The last point then divides, multiplies by the output weights, adds the bias and writes the whole result.
This file names those row values and proves what the body leaves in the two scratches and in the result's buffer, for the
points before the last (`body_early`) and for the last (`body_last`).
-/

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents `d` of a buffer of 16 rows with row `o` replaced by `w0` and row `o + 1` by `w1`. -/
def putRows {α : Type} {n : ℕ} (o : ℕ) (w0 w1 : (⟨2, ![1, n]⟩ : Shape).Idx → α) (d : (⟨2, ![16, n]⟩ : Shape).Idx → α) :
    (⟨2, ![16, n]⟩ : Shape).Idx → α := fun y =>
  if (y 0).val = o then w0 (ix2 (0 : Fin 1) (y 1))
  else if (y 0).val = o + 1 then w1 (ix2 (0 : Fin 1) (y 1)) else d y

/-- Reading a buffer after storing row `o` and then row `o + 1` gives its former contents with the two rows replaced. -/
theorem read_putRows {sg : RefSig} {κ : Kind} {sp : Space} {e : EltTy} {Val : EltTy → Type} {n : ℕ}
    (v : View sg κ sp (⟨2, ![16, n]⟩ : Shape) e) (f : v.ty.Contents Val) {o : ℕ} {off0 off1 : Fin 2 → ℕ}
    (inb0 : ∀ a : Fin 2, off0 a + (![1, n] : Fin 2 → ℕ) a ≤ (![16, n] : Fin 2 → ℕ) a)
    (inb1 : ∀ a : Fin 2, off1 a + (![1, n] : Fin 2 → ℕ) a ≤ (![16, n] : Fin 2 → ℕ) a)
    (w0 w1 : (⟨2, ![1, n]⟩ : Shape).Idx → Val e) (h0 : off0 = ![o, 0]) (h1 : off1 = ![o + 1, 0]) :
    v.read Val (v.writes Val f [(⟨Rect.unit (s := ⟨2, ![16, n]⟩) off1 ![1, n] inb1, w1⟩ : View.Piece Val (⟨2, ![16, n]⟩ : Shape) e),
        ⟨Rect.unit (s := ⟨2, ![16, n]⟩) off0 ![1, n] inb0, w0⟩])
      = putRows o w0 w1 (v.read Val f) := by
  funext y
  by_cases hy1 : (y 0).val = o + 1
  · rw [View.read_writes_cons_rows_of_mem v f inb1 w1 _ y (ix2 (0 : Fin 1) (y 1)) h1 hy1 rfl]
    have hy0 : ¬ (y 0).val = o := by omega
    simp only [putRows, if_neg hy0, if_pos hy1]
  · rw [View.read_writes_cons_rows_of_not_mem v f inb1 w1 _ y h1 (W := 1) rfl (by omega)]
    by_cases hy0 : (y 0).val = o
    · rw [View.read_writes_cons_rows_of_mem v f inb0 w0 _ y (ix2 (0 : Fin 1) (y 1)) h0 hy0 rfl]
      simp only [putRows, if_pos hy0]
    · rw [View.read_writes_cons_rows_of_not_mem v f inb0 w0 _ y h0 (W := 1) rfl (by omega), View.writes_nil]
      simp only [putRows, if_neg hy0, if_neg hy1]

/-- Loading the whole of a buffer that holds `x` gives `x`. -/
theorem load_whole {sp : Space} {S : Shape} {e : EltTy} {arg : Memref sig .tc sp S e} (harg : arg.IsWhole) (x : Vec F S e)
    {off : Fin S.rank → ℕ} (h : off = fun _ => 0) (inb : ∀ a, off a + S.size a ≤ S.size a) :
    View.readAt (Elt F) arg.view (Rect.unit off S.size inb).toLoadRect (harg.unread x) = x := by
  rw [View.readAt_eq_ld, harg.read_unread]; exact View.ld_unit_zero h inb x

/-- Loading part of a buffer that holds `x` gives that part of `x`. -/
theorem load_part {sp : Space} {S : Shape} {e : EltTy} {arg : Memref sig .tc sp S e} (harg : arg.IsWhole) (x : Vec F S e)
    (r : Rect S) : View.readAt (Elt F) arg.view r.toLoadRect (harg.unread x) = View.ld x r := by
  rw [View.readAt_eq_ld, harg.read_unread]

/-- Loading the whole of any contents is reading them. -/
theorem load_all {sp : Space} {S : Shape} {e : EltTy} (arg : Memref sig .tc sp S e) (f : arg.view.ty.Contents (Elt F))
    {off : Fin S.rank → ℕ} (h : off = fun _ => 0) (inb : ∀ a, off a + S.size a ≤ S.size a) :
    View.readAt (Elt F) arg.view (Rect.unit off S.size inb).toLoadRect f = View.read (Elt F) arg.view f := by
  rw [View.readAt_eq_ld]; exact View.ld_unit_zero h inb _

/-- Reading a buffer after one store to the whole of it gives what was stored. -/
theorem read_store_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  funext fun y => View.read_writes_cons_unit_of_mem v f inb w [] y y h fun a => (Nat.zero_add _).symm

/-- The first of the two mask rows of a point's mask block. -/
def maskA (x4 : Vec F S2x2048x1 .f32) : Vec F S1x2048x1 .f32 :=
  View.ld x4 (Rect.unit (s := S2x2048x1) ![0, 0, 0] S1x2048x1.size inb_S2x2048x1_S1x2048x1_0_0_0)

/-- The second of the two mask rows of a point's mask block. -/
def maskB (x4 : Vec F S2x2048x1 .f32) : Vec F S1x2048x1 .f32 :=
  View.ld x4 (Rect.unit (s := S2x2048x1) ![1, 0, 0] S1x2048x1.size inb_S2x2048x1_S1x2048x1_1_0_0)

/-- The sum of the weights of the point's first batch row, from the two halves `xa`, `xb` of its tokens. -/
def denA (xa xb : Vec F S1x1x1024x1024 .f32) (x4 : Vec F S2x2048x1 .f32) (w : Vec F S1024x1024 .bf16) (v : Vec F S1x1024 .f32) :
    Vec F S1x1 .f32 :=
  k0_pay8 (k0_pay5 (maskA x4) xa w v) (k0_pay7 (maskA x4) xb w v)

/-- The weighted sum of the tokens of the point's first batch row. -/
def poolA (xa xb : Vec F S1x1x1024x1024 .f32) (x4 : Vec F S2x2048x1 .f32) (w : Vec F S1024x1024 .bf16) (v : Vec F S1x1024 .f32) :
    Vec F S1x1024 .f32 :=
  k0_pay9 (k0_pay4 xa) (k0_pay5 (maskA x4) xa w v) (k0_pay6 xb) (k0_pay7 (maskA x4) xb w v)

/-- The sum of the weights of the point's second batch row. -/
def denB (xa xb : Vec F S1x1x1024x1024 .f32) (x4 : Vec F S2x2048x1 .f32) (w : Vec F S1024x1024 .bf16) (v : Vec F S1x1024 .f32) :
    Vec F S1x1 .f32 :=
  k0_pay16 (k0_pay10 (maskB x4)) (k0_pay12 xa w v) xb w v

/-- The weighted sum of the tokens of the point's second batch row. -/
def poolB (xa xb : Vec F S1x1x1024x1024 .f32) (x4 : Vec F S2x2048x1 .f32) (w : Vec F S1024x1024 .bf16) (v : Vec F S1x1024 .f32) :
    Vec F S1x1024 .f32 :=
  k0_pay1 (k0_pay17 (k0_pay10 (maskB x4)) (k0_pay11 xa) (k0_pay12 xa w v) xb w v)

/-- The pooled-sums scratch after point `i` on entry contents `e0`. -/
def poolStep (i : grid0.Coords) (x0 x1 x2 x3 : Vec F S1x1x1024x1024 .f32) (x4 : Vec F S2x2048x1 .f32)
    (x5 : Vec F S1024x1024 .bf16) (x6 : Vec F S1x1024 .f32) (e0 : Vec F S16x1024 .f32) : Vec F S16x1024 .f32 :=
  putRows (n := 1024) (2 * (i 0).val) (poolA x0 x1 x4 x5 x6) (poolB x2 x3 x4 x5 x6) e0

/-- The sums-of-weights scratch after point `i` on entry contents `e1`. -/
def denStep (i : grid0.Coords) (x0 x1 x2 x3 : Vec F S1x1x1024x1024 .f32) (x4 : Vec F S2x2048x1 .f32)
    (x5 : Vec F S1024x1024 .bf16) (x6 : Vec F S1x1024 .f32) (e1 : Vec F S16x1 .f32) : Vec F S16x1 .f32 :=
  putRows (n := 1) (2 * (i 0).val) (denA x0 x1 x4 x5 x6) (denB x2 x3 x4 x5 x6) e1

/-- The condition under which a point writes the result: it is the last. -/
abbrev isLast (i : grid0.Coords) : Prop := k0_cond1 i = 1#1

/-- The offsets of a load of a whole rank-4 buffer are all zero. -/
theorem zero4 : (![0, 0, 0, 0] : Fin 4 → ℕ) = fun _ => 0 := by decide
/-- The offsets of a load of a whole rank-2 buffer are all zero. -/
theorem zero2 : (![0, 0] : Fin 2 → ℕ) = fun _ => 0 := by decide

set_option maxHeartbeats 1000000 in
/-- What the body does at a point before the last: it stores its two rows of each scratch and leaves the rest. -/
theorem body_early (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S2x2048x1 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S16x1 .f32) (harg12 : arg12.IsWhole) (hc0 : ¬isLast i)
    (x0 x1 x2 x3 : Vec F S1x1x1024x1024 .f32) (x4 : Vec F S2x2048x1 .f32) (x5 : Vec F S1024x1024 .bf16)
    (x6 : Vec F S1x1024 .f32) (x7 : Vec F S1024x1024 .f32) (x8 : Vec F S1x1024 .f32) (x9 e0 : Vec F S16x1024 .f32)
    (e1 : Vec F S16x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare e0 ∗ owns (c : Thread nD τ) arg12 fullShare e1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (poolStep i x0 x1 x2 x3 x4 x5 x6 e0) ∗ owns (c : Thread nD τ) arg12 fullShare (denStep i x0 x1 x2 x3 x4 x5 x6 e1)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hfs0; obtain rfl := harg12.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [HS0]
  · iexists _; isplitr; swap; · iexact HS0
    ipureintro
    sl_unfold_words
    simp only [load_whole harg1 x0 zero4, load_whole harg2 x1 zero4, load_whole harg3 x2 zero4, load_whole harg4 x3 zero4,
      load_whole harg6 x5 zero2, load_whole harg7 x6 zero2, load_part harg5 x4]
    refine (read_putRows (n := 1024) arg11.view _ _ _ _ _ (k0_off2_eq i 0) (k0_off2_eq i 1)).trans ?_
    rw [harg11.read_unread]
    rfl
  iexists _; isplitr; swap; · iexact HS1
  ipureintro
  sl_unfold_words
  simp only [load_whole harg1 x0 zero4, load_whole harg2 x1 zero4, load_whole harg3 x2 zero4, load_whole harg4 x3 zero4,
    load_whole harg6 x5 zero2, load_whole harg7 x6 zero2, load_part harg5 x4]
  refine (read_putRows (n := 1) arg12.view _ _ _ _ _ (k0_off1_eq i 0) (k0_off1_eq i 1)).trans ?_
  rw [harg12.read_unread]
  rfl

set_option maxHeartbeats 1000000 in
/-- What the body does at the last point: it stores its two rows of each scratch and writes the result computed from the whole of both. -/
theorem body_last (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S2x2048x1 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S16x1 .f32) (harg12 : arg12.IsWhole) (hc0 : isLast i)
    (x0 x1 x2 x3 : Vec F S1x1x1024x1024 .f32) (x4 : Vec F S2x2048x1 .f32) (x5 : Vec F S1024x1024 .bf16)
    (x6 : Vec F S1x1024 .f32) (x7 : Vec F S1024x1024 .f32) (x8 : Vec F S1x1024 .f32) (x9 e0 : Vec F S16x1024 .f32)
    (e1 : Vec F S16x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare e0 ∗ owns (c : Thread nD τ) arg12 fullShare e1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 (poolStep i x0 x1 x2 x3 x4 x5 x6 e0) (denStep i x0 x1 x2 x3 x4 x5 x6 e1) x7 x8) ∗ owns (c : Thread nD τ) arg11 fullShare (poolStep i x0 x1 x2 x3 x4 x5 x6 e0) ∗ owns (c : Thread nD τ) arg12 fullShare (denStep i x0 x1 x2 x3 x4 x5 x6 e1)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hfs0; obtain rfl := harg12.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    sl_unfold_words
    simp only [load_whole harg1 x0 zero4, load_whole harg2 x1 zero4, load_whole harg3 x2 zero4, load_whole harg4 x3 zero4,
      load_whole harg6 x5 zero2, load_whole harg7 x6 zero2, load_part harg5 x4]
    refine (read_store_whole arg10.view _ zero2 _ _).trans ?_
    refine congr (congr (congr (congrArg k0_pay2 ?_) ?_) (load_whole harg8 x7 zero2 _)) (load_whole harg9 x8 zero2 _)
    · refine (load_all arg11 _ zero2 _).trans ((read_putRows (n := 1024) arg11.view _ _ _ _ _ (k0_off2_eq i 0) (k0_off2_eq i 1)).trans ?_)
      rw [harg11.read_unread]
      rfl
    · refine (load_all arg12 _ zero2 _).trans ((read_putRows (n := 1) arg12.view _ _ _ _ _ (k0_off1_eq i 0) (k0_off1_eq i 1)).trans ?_)
      rw [harg12.read_unread]
      rfl
  isplitl [HS0]
  · iexists _; isplitr; swap; · iexact HS0
    ipureintro
    sl_unfold_words
    simp only [load_whole harg1 x0 zero4, load_whole harg2 x1 zero4, load_whole harg3 x2 zero4, load_whole harg4 x3 zero4,
      load_whole harg6 x5 zero2, load_whole harg7 x6 zero2, load_part harg5 x4]
    refine (read_putRows (n := 1024) arg11.view _ _ _ _ _ (k0_off2_eq i 0) (k0_off2_eq i 1)).trans ?_
    rw [harg11.read_unread]
    rfl
  iexists _; isplitr; swap; · iexact HS1
  ipureintro
  sl_unfold_words
  simp only [load_whole harg1 x0 zero4, load_whole harg2 x1 zero4, load_whole harg3 x2 zero4, load_whole harg4 x3 zero4,
    load_whole harg6 x5 zero2, load_whole harg7 x6 zero2, load_part harg5 x4]
  refine (read_putRows (n := 1) arg12.view _ _ _ _ _ (k0_off1_eq i 0) (k0_off1_eq i 1)).trans ?_
  rw [harg12.read_unread]
  rfl

end Cert.KernelIdeal.Pool

end

end
-- ==== Proof.Run.lean ====
module

public import proofs.«01_k».proof.Proof.Body
public import Idealize.ShloMosaic.Lib.Claim

/-!
# The run of the attention pooling kernel

The two scratches are carried from point to point.  Before point `t` their rows below `2 t` hold the values of the batch rows
already handled; nothing is said of the later rows.  From this the last point finds both scratches complete, and the whole
result is computed from them.  This file states that invariant, proves that every point keeps it, and concludes: the kernel
terminates, leaves its arguments as they were, and its result is the array `resultAt`.
-/

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values of the two scratches and of the result -/

/-- The grid point that handles batch row `b`. -/
def pointOf (b : Fin 16) : Fin cfg0.N := ⟨b.val / 2, by rw [show cfg0.N = 8 from N_0]; omega⟩

/-- The complete array of pooled sums: row `b` is the weighted sum of the tokens of batch row `b`. -/
def poolAll (c : Dev nD) : Vec F S16x1024 .f32 := fun y =>
  if (y 0).val % 2 = 0 then
    poolA (iblk m c 0 (pointOf (y 0))) (iblk m c 1 (pointOf (y 0))) (iblk m c 4 (pointOf (y 0))) (iblk m c 5 (pointOf (y 0)))
      (iblk m c 6 (pointOf (y 0))) (ix2 (0 : Fin 1) (y 1))
  else
    poolB (iblk m c 2 (pointOf (y 0))) (iblk m c 3 (pointOf (y 0))) (iblk m c 4 (pointOf (y 0))) (iblk m c 5 (pointOf (y 0)))
      (iblk m c 6 (pointOf (y 0))) (ix2 (0 : Fin 1) (y 1))

/-- The complete array of sums of weights: row `b` is the sum of the weights of batch row `b`. -/
def denAll (c : Dev nD) : Vec F S16x1 .f32 := fun y =>
  if (y 0).val % 2 = 0 then
    denA (iblk m c 0 (pointOf (y 0))) (iblk m c 1 (pointOf (y 0))) (iblk m c 4 (pointOf (y 0))) (iblk m c 5 (pointOf (y 0)))
      (iblk m c 6 (pointOf (y 0))) (ix2 (0 : Fin 1) (y 1))
  else
    denB (iblk m c 2 (pointOf (y 0))) (iblk m c 3 (pointOf (y 0))) (iblk m c 4 (pointOf (y 0))) (iblk m c 5 (pointOf (y 0)))
      (iblk m c 6 (pointOf (y 0))) (ix2 (0 : Fin 1) (y 1))

/-- The result as the body writes it at point `t` from complete scratches. -/
def resultAt (c : Dev nD) (t : Fin cfg0.N) : Vec F S16x1024 .f32 :=
  k0_pay2 (poolAll m c) (denAll m c) (iblk m c 7 t) (iblk m c 8 t)

/-- Two arrays of 16 rows agree on the rows below `2 k`. -/
def AgreeBelow {α : Type} {n : ℕ} (k : ℕ) (d d' : (⟨2, ![16, n]⟩ : Shape).Idx → α) : Prop :=
  ∀ y, (y 0).val < 2 * k → d y = d' y

/-- Arrays that agree on all 16 rows are equal. -/
theorem AgreeBelow.eq {α : Type} {n k : ℕ} {d d' : (⟨2, ![16, n]⟩ : Shape).Idx → α} (h : AgreeBelow k d d') (hk : 8 ≤ k) :
    d = d' := funext fun y => h y (by have := (y 0).isLt; simp only [Matrix.cons_val_zero] at this; omega)

/-- Replacing rows `2 t` and `2 t + 1` by those of `d'` extends the agreement by these two rows. -/
theorem AgreeBelow.step {α : Type} {n t : ℕ} {d d' : (⟨2, ![16, n]⟩ : Shape).Idx → α} (h : AgreeBelow t d d')
    {w0 w1 : (⟨2, ![1, n]⟩ : Shape).Idx → α} (h0 : ∀ y, (y 0).val = 2 * t → d' y = w0 (ix2 (0 : Fin 1) (y 1)))
    (h1 : ∀ y, (y 0).val = 2 * t + 1 → d' y = w1 (ix2 (0 : Fin 1) (y 1))) :
    AgreeBelow (t + 1) (putRows (2 * t) w0 w1 d) d' := by
  intro y hy
  unfold putRows
  by_cases e0 : (y 0).val = 2 * t
  · rw [if_pos e0, h0 y e0]
  by_cases e1 : (y 0).val = 2 * t + 1
  · rw [if_neg e0, if_pos e1, h1 y e1]
  rw [if_neg e0, if_neg e1]
  exact h y (by omega)

/-- The grid coordinate of point `t` is `t`. -/
theorem coords_val (t : Fin cfg0.N) : (grid0.coords t 0).val = t.val := by
  have e0 : (grid0.coords t 0).val = t.val / 1 % 8 := Pipeline.Grid.coords_val t 0 (by decide) rfl
  have hN : t.val < 8 := lt_of_lt_of_eq t.isLt (show cfg0.N = 8 from N_0)
  omega

/-- A batch row `2 t` or `2 t + 1` is handled by point `t`. -/
theorem pointOf_eq (b : Fin 16) (t : Fin cfg0.N) (h : b.val / 2 = t.val) : pointOf b = t := Fin.ext h

/-- One point extends the agreement of the pooled-sums scratch with the complete array by its two rows. -/
theorem pool_step (c : Dev nD) (t : Fin cfg0.N) {e0 : Vec F S16x1024 .f32} (h : AgreeBelow (n := 1024) t.val e0 (poolAll m c)) :
    AgreeBelow (n := 1024) (t.val + 1) (poolStep (grid0.coords t) (iblk m c 0 t) (iblk m c 1 t) (iblk m c 2 t) (iblk m c 3 t) (iblk m c 4 t)
      (iblk m c 5 t) (iblk m c 6 t) e0) (poolAll m c) := by
  unfold poolStep
  rw [coords_val]
  refine h.step (fun y hy => ?_) (fun y hy => ?_)
  · unfold poolAll
    rw [if_pos (by omega), pointOf_eq (y 0) t (by omega)]
  · unfold poolAll
    rw [if_neg (by omega), pointOf_eq (y 0) t (by omega)]

/-- One point extends the agreement of the sums-of-weights scratch with the complete array by its two rows. -/
theorem den_step (c : Dev nD) (t : Fin cfg0.N) {e1 : Vec F S16x1 .f32} (h : AgreeBelow (n := 1) t.val e1 (denAll m c)) :
    AgreeBelow (n := 1) (t.val + 1) (denStep (grid0.coords t) (iblk m c 0 t) (iblk m c 1 t) (iblk m c 2 t) (iblk m c 3 t) (iblk m c 4 t)
      (iblk m c 5 t) (iblk m c 6 t) e1) (denAll m c) := by
  unfold denStep
  rw [coords_val]
  refine h.step (fun y hy => ?_) (fun y hy => ?_)
  · unfold denAll
    rw [if_pos (by omega), pointOf_eq (y 0) t (by omega)]
  · unfold denAll
    rw [if_neg (by omega), pointOf_eq (y 0) t (by omega)]

/-! ## The proof data -/

/-- The scratch of pooled sums. -/
abbrev poolRef : Memref sig .tc .vmem S16x1024 .f32 := Memref.whole cc0_scratch0
/-- The scratch of sums of weights. -/
abbrev denRef : Memref sig .tc .vmem S16x1 .f32 := Memref.whole cc0_scratch1

/-- What is known of the scratches before point `k`: their rows below `2 k` are those of the complete arrays. -/
def inv (c : Dev nD) (k : ℕ) : sProp 𝕄 :=
  iprop((∃ d, ⌜AgreeBelow (n := 1024) k d (poolAll m c)⌝ ∗ owns (c : Thread nD τ) poolRef fullShare d)
    ∗ (∃ d, ⌜AgreeBelow (n := 1) k d (denAll m c)⌝ ∗ owns (c : Thread nD τ) denRef fullShare d)
    ∗ (∃ r, prngReg c r))

/-- The pipeline's proof data: every input's buffer holds its block, the result's buffer after the last point holds the result,
and between points the scratches satisfy `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resultAt m c t
  Φ k := inv m c k.val
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- After a point the buffer of window 0 holds the block it held. -/
theorem after0_0 (c : Dev nD) (t : Fin cfg0.N) : (dats m 0 c).after 0 t = iblk m c 0 t := by dsimp only [dats]
/-- After a point the buffer of window 1 holds the block it held. -/
theorem after0_1 (c : Dev nD) (t : Fin cfg0.N) : (dats m 0 c).after 1 t = iblk m c 1 t := by dsimp only [dats]
/-- After a point the buffer of window 2 holds the block it held. -/
theorem after0_2 (c : Dev nD) (t : Fin cfg0.N) : (dats m 0 c).after 2 t = iblk m c 2 t := by dsimp only [dats]
/-- After a point the buffer of window 3 holds the block it held. -/
theorem after0_3 (c : Dev nD) (t : Fin cfg0.N) : (dats m 0 c).after 3 t = iblk m c 3 t := by dsimp only [dats]
/-- After a point the buffer of window 4 holds the block it held. -/
theorem after0_4 (c : Dev nD) (t : Fin cfg0.N) : (dats m 0 c).after 4 t = iblk m c 4 t := by dsimp only [dats]
/-- After a point the buffer of window 5 holds the block it held. -/
theorem after0_5 (c : Dev nD) (t : Fin cfg0.N) : (dats m 0 c).after 5 t = iblk m c 5 t := by dsimp only [dats]
/-- After a point the buffer of window 6 holds the block it held. -/
theorem after0_6 (c : Dev nD) (t : Fin cfg0.N) : (dats m 0 c).after 6 t = iblk m c 6 t := by dsimp only [dats]
/-- After a point the buffer of window 7 holds the block it held. -/
theorem after0_7 (c : Dev nD) (t : Fin cfg0.N) : (dats m 0 c).after 7 t = iblk m c 7 t := by dsimp only [dats]
/-- After a point the buffer of window 8 holds the block it held. -/
theorem after0_8 (c : Dev nD) (t : Fin cfg0.N) : (dats m 0 c).after 8 t = iblk m c 8 t := by dsimp only [dats]
/-- After a point the buffer of window 9 holds the result computed there. -/
theorem after0_9 (c : Dev nD) (t : Fin cfg0.N) : (dats m 0 c).after 9 t = resultAt m c t := by dsimp only [dats]

/-- Before a point the buffer of window 0 holds the window's block. -/
theorem before0_0 (c : Dev nD) (t : Fin cfg0.N) (d) : (dats m 0 c).before 0 t d = iblk m c 0 t :=
  before0_0_of m (dats m 0 c) (A_eq m c 0) (after0_0 m c) t d
/-- Before a point the buffer of window 1 holds the window's block. -/
theorem before0_1 (c : Dev nD) (t : Fin cfg0.N) (d) : (dats m 0 c).before 1 t d = iblk m c 1 t :=
  before0_1_of m (dats m 0 c) (A_eq m c 1) (after0_1 m c) t d
/-- Before a point the buffer of window 2 holds the window's block. -/
theorem before0_2 (c : Dev nD) (t : Fin cfg0.N) (d) : (dats m 0 c).before 2 t d = iblk m c 2 t :=
  before0_2_of m (dats m 0 c) (A_eq m c 2) (after0_2 m c) t d
/-- Before a point the buffer of window 3 holds the window's block. -/
theorem before0_3 (c : Dev nD) (t : Fin cfg0.N) (d) : (dats m 0 c).before 3 t d = iblk m c 3 t :=
  before0_3_of m (dats m 0 c) (A_eq m c 3) (after0_3 m c) t d
/-- Before a point the buffer of window 4 holds the window's block. -/
theorem before0_4 (c : Dev nD) (t : Fin cfg0.N) (d) : (dats m 0 c).before 4 t d = iblk m c 4 t :=
  before0_4_of m (dats m 0 c) (A_eq m c 4) (after0_4 m c) t d
/-- Before a point the buffer of window 5 holds the window's block. -/
theorem before0_5 (c : Dev nD) (t : Fin cfg0.N) (d) : (dats m 0 c).before 5 t d = iblk m c 5 t :=
  before0_5_of m (dats m 0 c) (A_eq m c 5) (after0_5 m c) t d
/-- Before a point the buffer of window 6 holds the window's block. -/
theorem before0_6 (c : Dev nD) (t : Fin cfg0.N) (d) : (dats m 0 c).before 6 t d = iblk m c 6 t :=
  before0_6_of m (dats m 0 c) (A_eq m c 6) (after0_6 m c) t d
/-- Before a point the buffer of window 7 holds the window's block. -/
theorem before0_7 (c : Dev nD) (t : Fin cfg0.N) (d) : (dats m 0 c).before 7 t d = iblk m c 7 t :=
  before0_7_of m (dats m 0 c) (A_eq m c 7) (after0_7 m c) t d
/-- Before a point the buffer of window 8 holds the window's block. -/
theorem before0_8 (c : Dev nD) (t : Fin cfg0.N) (d) : (dats m 0 c).before 8 t d = iblk m c 8 t :=
  before0_8_of m (dats m 0 c) (A_eq m c 8) (after0_8 m c) t d

/-- A point leaves in the buffer of window 0 exactly the window's block. -/
theorem leaves0_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after0_0]
/-- A point leaves in the buffer of window 1 exactly the window's block. -/
theorem leaves0_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after0_1]
/-- A point leaves in the buffer of window 2 exactly the window's block. -/
theorem leaves0_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after0_2]
/-- A point leaves in the buffer of window 3 exactly the window's block. -/
theorem leaves0_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after0_3]
/-- A point leaves in the buffer of window 4 exactly the window's block. -/
theorem leaves0_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (cfg0.grid.coords t) = false from rfl, after0_4]
/-- A point leaves in the buffer of window 5 exactly the window's block. -/
theorem leaves0_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (cfg0.grid.coords t) = false from rfl, after0_5]
/-- A point leaves in the buffer of window 6 exactly the window's block. -/
theorem leaves0_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (cfg0.grid.coords t) = false from rfl, after0_6]
/-- A point leaves in the buffer of window 7 exactly the window's block. -/
theorem leaves0_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (cfg0.grid.coords t) = false from rfl, after0_7]
/-- A point leaves in the buffer of window 8 exactly the window's block. -/
theorem leaves0_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (cfg0.grid.coords t) = false from rfl, after0_8]

/-- A point writes the result exactly when it is the last. -/
theorem isLast_iff (t : Fin cfg0.N) : isLast (grid0.coords t) ↔ t.val = 7 := by
  have e0 := coords_val t
  have hN : t.val < 8 := lt_of_lt_of_eq t.isLt (show cfg0.N = 8 from N_0)
  simp only [isLast, k0_cond1, e0]
  word_cmp

/-- At the last point the result's buffer is left holding the result. -/
theorem leaves0_9_last (c : Dev nD) (t : Fin cfg0.N) (h : isLast (grid0.coords t)) :
    (dats m 0 c).leavesExact 9 t = owns (c : Thread nD τ) (win0_9.stage (cfg0.slots t 9)) fullShare (resultAt m c t) := by
  have hi : cfg0.idle 9 (cfg0.grid.coords t) = false := by
    show (!decide (k0_cond1 (grid0.coords t) = 1#1)) = false
    rw [decide_eq_true h]; rfl
  unfold Dat.leavesExact; rw [hi, after0_9]

/-- At an earlier point it is handed back as found. -/
theorem leaves0_9_early (c : Dev nD) (t : Fin cfg0.N) (h : ¬isLast (grid0.coords t)) :
    (dats m 0 c).leavesExact 9 t
      = iprop(∃ d, owns (c : Thread nD τ) (win0_9.stage (cfg0.slots t 9)) fullShare ((dats m 0 c).before 9 t d)) := by
  have hN : t.val < 8 := lt_of_lt_of_eq t.isLt (show cfg0.N = 8 from N_0)
  refine (dats m 0 c).leavesExact_idle 9 t ?_ ?_
  · show (!decide (k0_cond1 (grid0.coords t) = 1#1)) = true
    rw [decide_eq_false h]; rfl
  · exact Bool.eq_false_iff.mpr fun hf => h ((isLast_iff t).mpr (by have := (flush0_9 t).mp hf; omega))

/-! ## Every point keeps the invariant -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
/-- The body at any point takes what it is given to what it must return. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, leaves0_0, leaves0_1, leaves0_2, leaves0_3, leaves0_4, leaves0_5, leaves0_6, leaves0_7, leaves0_8]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  by_cases h : isLast (grid0.coords t)
  · have h7 : t.val = 7 := (isLast_iff t).mp h
    rw [leaves0_9_last m c t h]
    iintro ⟨⟨⟨%e0, %he0, HS0⟩, ⟨%e1, %he1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_last c (grid0.coords t) _ _ _ _ _ _ _ _ _ _ _ _ _ _ _ _ _ _ _ _ _ _ _ _ h (iblk m c 0 t) (iblk m c 1 t) (iblk m c 2 t) (iblk m c 3 t)
      (iblk m c 4 t) (iblk m c 5 t) (iblk m c 6 t) (iblk m c 7 t) (iblk m c 8 t) ((dats m 0 c).before 9 t d9) e0 e1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0]
      · iexists _; isplitr; swap; · iexact HS0
        ipureintro; exact pool_step m c t he0
      isplitl [HS1]
      · iexists _; isplitr; swap; · iexact HS1
        ipureintro; exact den_step m c t he1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [(pool_step m c t he0).eq (by omega), (den_step m c t he1).eq (by omega)]
    iexact H9
  · rw [leaves0_9_early m c t h]
    iintro ⟨⟨⟨%e0, %he0, HS0⟩, ⟨%e1, %he1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_early c (grid0.coords t) _ _ _ _ _ _ _ _ _ _ _ _ _ _ _ _ _ _ _ _ _ _ _ _ h (iblk m c 0 t) (iblk m c 1 t) (iblk m c 2 t) (iblk m c 3 t)
      (iblk m c 4 t) (iblk m c 5 t) (iblk m c 6 t) (iblk m c 7 t) (iblk m c 8 t) ((dats m 0 c).before 9 t d9) e0 e1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0]
      · iexists _; isplitr; swap; · iexact HS0
        ipureintro; exact pool_step m c t he0
      isplitl [HS1]
      · iexists _; isplitr; swap; · iexact HS1
        ipureintro; exact den_step m c t he1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-- The body table's row is the body at point `t`. -/
theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the pipeline holds besides its windows: the two scratches and the generator register. -/
theorem PhiA0_eq (c : Dev nD) : (Pipeline.ΦA spec0 c : sProp 𝕄)
    = iprop(iprop((∃ d, owns (c : Thread nD τ) poolRef fullShare d) ∗ (∃ d, owns (c : Thread nD τ) denRef fullShare d)) ∗ (∃ r, prngReg c r)) := by
  unfold Pipeline.ΦA
  rw [scopedRest0_eq]
  simp only [poolRef, denRef, owns_whole]
  rfl

/-- Before the first point nothing is claimed of the scratches. -/
theorem inv_start (c : Dev nD) : (Pipeline.ΦA spec0 c : sProp 𝕄) ⊢ (dats m 0 c).Φ 0 := by
  rw [PhiA0_eq, show (dats m 0 c).Φ 0 = inv m c 0 from rfl]
  unfold inv
  iintro ⟨⟨⟨%d0, H0⟩, ⟨%d1, H1⟩⟩, Hg⟩
  isplitl [H0]
  · iexists _; isplitr; swap; · iexact H0
    ipureintro; intro y hy; omega
  isplitl [H1]
  · iexists _; isplitr; swap; · iexact H1
    ipureintro; intro y hy; omega
  iexact Hg

/-- After the last point what is known of the scratches is dropped. -/
theorem inv_end (c : Dev nD) : (dats m 0 c).Φ (Fin.last cfg0.N) ⊢ (Pipeline.ΦA spec0 c : sProp 𝕄) := by
  rw [PhiA0_eq, show (dats m 0 c).Φ (Fin.last cfg0.N) = inv m c (Fin.last cfg0.N).val from rfl]
  unfold inv
  iintro ⟨⟨%d0, %h0, H0⟩, ⟨%d1, %h1, H1⟩, Hg⟩
  isplitl [H0 H1]
  · isplitl [H0]
    · iexists _; iexact H0
    iexists _; iexact H1
  iexact Hg

set_option backward.isDefEq.respectTransparency.types false in
/-- The launch: every window's array ends as the proof data says, every other array as the region found it, and every counter
is zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := inv_start m) (hout := inv_end m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The kernel terminates, leaves its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Pool

end

end
-- ==== Proof.Printed.lean ====
module

public import proofs.«01_k».proof.Defs
public import proofs.«01_k».proof.Proof.Gen.Kernel
public import proofs.«01_k».proof.Proof.Run

/-!
# The kernel as printed

The ideal pass changed nothing in the kernel: the program as printed and the idealized one are the same text.  The run was proved
for every reading of the floats, so it is also the run of the program as printed, at the hardware's floats.
-/

@[expose] public section

set_option maxRecDepth 16384

noncomputable section

namespace Cert.Proof

open Idealize.ShloMosaic Idealize.SL.Sem

/-- The two programs' body tables hold the same body. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) => rfl

/-- The two programs' full tables are equal. -/
theorem defs_eq : @Cert.Kernel.defs Bits _ Cert.Kernel.Gen.facts = @Cert.KernelIdeal.defs Bits _ Cert.KernelIdeal.Gen.facts := by
  unfold Cert.Kernel.defs Cert.KernelIdeal.defs
  rw [bodies_eq]
  rfl

/-- The kernel as printed terminates, leaves its argument arrays unchanged and every counter at zero. -/
theorem kernel_frame : @Cert.quiescent_Kernel Cert.Kernel.Gen.facts := fun m g _ => by
  rw [defs_eq]
  exact Cert.KernelIdeal.Pool.frame (F := Bits) m g

end Cert.Proof

end

end
-- ==== Proof.Attention.lean ====
module

public import Idealize.ShloMosaic.Lib.Pipeline.ValueKit

/-!
# Attention pooling over the extended reals

Both programs weigh the tokens of a batch row by their scores.  The kernel sums `exp s · μ` and `exp s · μ · x`, with `μ` the
mask as 0 or 1, and divides once at the end.  The reference sends the masked scores to −∞, subtracts the largest score of the
row, normalises the exponentials and then sums the weighted tokens.  `pool_eq` states that the two agree whenever the scores are
real and some token of the row is unmasked; the tokens themselves may be infinite.
-/

@[expose] public section

noncomputable section

namespace Cert.Attention

open Idealize.ShloMosaic

/-- The score of token `l` of batch row `b`: the hidden vector's hyperbolic tangent against `v`. -/
def score (x : FVec Ideal (⟨3, ![16, 2048, 1024]⟩ : Shape) .f32) (w : FVec Ideal (⟨2, ![1024, 1024]⟩ : Shape) .f32)
    (v : FVec Ideal (⟨1, ![1024]⟩ : Shape) .f32) (b : Fin 16) (l : Fin 2048) : EReal :=
  ∑ e : Fin 1024, Ideal.tanh (∑ d : Fin 1024, x (ix3 b l d) * w (ix2 d e)) * v (ix1 e)

/-- The hyperbolic tangent of an extended real is a real number. -/
theorem tanh_real (x : EReal) : ∃ r : ℝ, Ideal.tanh x = (r : EReal) := by
  induction x using EReal.rec with
  | bot => exact ⟨-1, rfl⟩
  | top => exact ⟨1, rfl⟩
  | coe x => exact ⟨_, rfl⟩

/-- A finite sum of real numbers, taken in the extended reals, is the real sum. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- With a real `v` every score is real, whatever the tokens and the first weights are. -/
theorem score_real (x : FVec Ideal (⟨3, ![16, 2048, 1024]⟩ : Shape) .f32) (w : FVec Ideal (⟨2, ![1024, 1024]⟩ : Shape) .f32)
    (v : FVec Ideal (⟨1, ![1024]⟩ : Shape) .f32) (hv : ∀ e, ∃ r : ℝ, v (ix1 e) = (r : EReal)) (b : Fin 16) (l : Fin 2048) :
    ∃ r : ℝ, score x w v b l = (r : EReal) := by
  choose r hr using hv
  choose h hh using fun e : Fin 1024 => tanh_real (∑ d : Fin 1024, x (ix3 b l d) * w (ix2 d e))
  refine ⟨∑ e, h e * r e, ?_⟩
  unfold score
  rw [← coe_sum]
  exact Finset.sum_congr rfl fun e _ => by rw [hh, hr, EReal.coe_mul]

/-- The largest of finitely many scores, none of them `⊤` and one of them real, is real. -/
theorem max_real {n : ℕ} (f : Fin n → EReal) (htop : ∀ i, f i ≠ ⊤) (hex : ∃ i, f i ≠ ⊥) :
    ∃ r : ℝ, max ⊥ (Finset.fold max ⊥ f Finset.univ) = (r : EReal) := by
  have h1 : Finset.fold max ⊥ f Finset.univ ≠ ⊤ := by
    intro h
    have := (Finset.le_fold_max (b := (⊥ : EReal)) (f := f) (s := Finset.univ) (⊤ : EReal)).mp (le_of_eq h.symm)
    rcases this with h | ⟨i, _, hi⟩
    · exact absurd h (by simp)
    · exact htop i (top_le_iff.mp hi)
  have h2 : Finset.fold max ⊥ f Finset.univ ≠ ⊥ := by
    obtain ⟨i, hi⟩ := hex
    intro h
    refine hi (le_bot_iff.mp (h ▸ ?_))
    exact (Finset.le_fold_max (b := (⊥ : EReal)) (f := f) (s := Finset.univ) (f i)).mpr (Or.inr ⟨i, Finset.mem_univ i, le_rfl⟩)
  refine ⟨(Finset.fold max ⊥ f Finset.univ).toReal, ?_⟩
  rw [max_eq_right bot_le, EReal.coe_toReal h1 h2]

/-- A nonnegative real factor distributes over a finite sum of extended reals. -/
theorem sum_mul_coe {ι : Type} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (EReal.coe_nonneg.mpr hr) (EReal.coe_ne_top r)]

/-- Dividing by a positive real is multiplying by its inverse. -/
theorem div_pos_real (x : EReal) {y : ℝ} (hy : 0 < y) : Ideal.div x (y : EReal) = x * ((y⁻¹ : ℝ) : EReal) := by
  have h : (y : EReal) ≠ 0 := by exact_mod_cast hy.ne'
  unfold Ideal.div
  rw [if_neg h, EReal.coe_inv]

/-- One division at the end against normalised weights: for real scores `s`, a mask `μ` of zeros and ones that keeps some token,
and any real shift `r`, the masked weighted sum divided by the sum of the masked weights is the sum weighted by the softmax of
the scores with the masked ones at −∞. -/
theorem pool_eq {n : ℕ} (s μ x : Fin n → EReal) (hs : ∀ i, ∃ a : ℝ, s i = (a : EReal)) (hμ : ∀ i, μ i = 0 ∨ μ i = 1)
    (hex : ∃ i, μ i = 1) (M : EReal) (hM : ∃ r : ℝ, M = (r : EReal)) :
    Ideal.div (∑ i, (Ideal.exp (s i) * μ i) * x i) (∑ i, Ideal.exp (s i) * μ i)
      = ∑ i, Ideal.div (Ideal.exp ((if 0 < μ i then s i else ⊥) - M)) (∑ j, Ideal.exp ((if 0 < μ j then s j else ⊥) - M)) * x i := by
  obtain ⟨r, rfl⟩ := hM
  choose a ha using hs
  let u : Fin n → ℝ := fun i => if μ i = 1 then Real.exp (a i) else 0
  have hu : ∀ i, Ideal.exp (s i) * μ i = (u i : EReal) := by
    intro i
    rw [ha]
    rcases hμ i with h | h
    · simp only [u, h, mul_zero, if_neg (zero_ne_one : (0 : EReal) ≠ 1), EReal.coe_zero]
    · simp only [u, h, mul_one, if_true]; rfl
  have he : ∀ i, Ideal.exp ((if 0 < μ i then s i else ⊥) - (r : EReal)) = ((u i * Real.exp (-r) : ℝ) : EReal) := by
    intro i
    rw [ha]
    rcases hμ i with h | h
    · simp only [u, h, lt_irrefl, if_false, if_neg (zero_ne_one : (0 : EReal) ≠ 1), zero_mul, EReal.coe_zero, EReal.bot_sub]
      rfl
    · simp only [u, h, zero_lt_one, if_true, ← Real.exp_add, ← sub_eq_add_neg, ← EReal.coe_sub]
      rfl
  have hD : 0 < ∑ i, u i := by
    obtain ⟨k, hk⟩ := hex
    have h0 : ∀ i ∈ Finset.univ, 0 ≤ u i := fun i _ => by
      simp only [u]; split
      · exact (Real.exp_pos _).le
      · exact le_rfl
    refine lt_of_lt_of_le ?_ (Finset.single_le_sum h0 (Finset.mem_univ k))
    simp only [u, hk, if_true]; exact Real.exp_pos _
  simp only [hu, he, coe_sum]
  rw [← Finset.sum_mul, div_pos_real _ hD, sum_mul_coe _ _ (inv_nonneg.mpr hD.le)]
  refine Finset.sum_congr rfl fun i _ => ?_
  rw [div_pos_real _ (mul_pos hD (Real.exp_pos _)), mul_assoc, mul_comm (x i), ← mul_assoc, ← EReal.coe_mul, ← EReal.coe_mul]
  congr 2
  have := (Real.exp_pos (-r)).ne'
  have := hD.ne'
  field_simp

end Cert.Attention

end

end
-- ==== Proof.Value.lean ====
module

public import proofs.«01_k».proof.Proof.Run
public import proofs.«01_k».proof.Proof.Attention

/-!
# The value of the attention pooling kernel

The two scratches and the result are read at an index, as sums over the 2048 tokens of a batch row of the argument arrays.
-/

@[expose] public section

set_option maxRecDepth 16384

noncomputable section

namespace Cert.KernelIdeal.Pool

open Cert.KernelIdeal Cert.KernelIdeal.Gen
open Idealize.ShloMosaic Idealize.ShloMosaic.TcCoe Idealize.SL.Sem
open Cert.Attention

variable (m : (ℓ : Loc nD τ sig) → Buf (Elt Ideal) ℓ)

/-! ## The blocks -/

/-- Every window's index map at a point. -/
theorem idx : ∀ t : Fin cfg0.N, win0_0.index t = ![2 * t.val, 0, 0, 0] ∧ win0_1.index t = ![2 * t.val, 1, 0, 0]
    ∧ win0_2.index t = ![2 * t.val + 1, 0, 0, 0] ∧ win0_3.index t = ![2 * t.val + 1, 1, 0, 0] ∧ win0_4.index t = ![t.val, 0, 0]
    ∧ win0_5.index t = ![0, 0] ∧ win0_6.index t = ![0, 0] ∧ win0_7.index t = ![0, 0] ∧ win0_8.index t = ![0, 0] :=
  (by decide +kernel : ∀ t : Fin grid0.N, _)

/-- The tokens, as launched. -/
abbrev tokens (c : Dev nD) : FVec Ideal S16x2048x1024 .f32 := m ((c : Thread nD τ).loc main_arg0)
/-- The mask as numbers: 1 where a token is kept, 0 where it is masked. -/
abbrev maskf (c : Dev nD) : FVec Ideal S16x2048 .f32 := uitofp .f32 (m ((c : Thread nD τ).loc main_arg1))
/-- The hidden layer's weights, as launched. -/
abbrev hidden (c : Dev nD) : FVec Ideal S1024x1024 .f32 := m ((c : Thread nD τ).loc main_arg2)
/-- The score vector, as launched. -/
abbrev scorer (c : Dev nD) : FVec Ideal S1024 .f32 := m ((c : Thread nD τ).loc main_arg3)

/-- First half of the tokens of an even batch row. -/
theorem blk0 (c : Dev nD) (b : Fin 16) (hb : b.val % 2 = 0) (i j : Fin 1024) :
    iblk m c 0 (pointOf b) (ix4 0 0 i j) = tokens m c (ix3 b ⟨i.val, by omega⟩ j) := by
  have hp : (pointOf b).val = b.val / 2 := rfl
  blk_point [iblk, V, idx (pointOf b)]

/-- Second half of the tokens of an even batch row. -/
theorem blk1 (c : Dev nD) (b : Fin 16) (hb : b.val % 2 = 0) (i j : Fin 1024) :
    iblk m c 1 (pointOf b) (ix4 0 0 i j) = tokens m c (ix3 b ⟨1024 + i.val, by omega⟩ j) := by
  have hp : (pointOf b).val = b.val / 2 := rfl
  blk_point [iblk, V, idx (pointOf b)]

/-- First half of the tokens of an odd batch row. -/
theorem blk2 (c : Dev nD) (b : Fin 16) (hb : ¬b.val % 2 = 0) (i j : Fin 1024) :
    iblk m c 2 (pointOf b) (ix4 0 0 i j) = tokens m c (ix3 b ⟨i.val, by omega⟩ j) := by
  have hp : (pointOf b).val = b.val / 2 := rfl
  blk_point [iblk, V, idx (pointOf b)]

/-- Second half of the tokens of an odd batch row. -/
theorem blk3 (c : Dev nD) (b : Fin 16) (hb : ¬b.val % 2 = 0) (i j : Fin 1024) :
    iblk m c 3 (pointOf b) (ix4 0 0 i j) = tokens m c (ix3 b ⟨1024 + i.val, by omega⟩ j) := by
  have hp : (pointOf b).val = b.val / 2 := rfl
  blk_point [iblk, V, idx (pointOf b)]

/-- The mask of an even batch row. -/
theorem maskA_at (c : Dev nD) (b : Fin 16) (hb : b.val % 2 = 0) (l : Fin 2048) :
    maskA (iblk m c 4 (pointOf b)) (ix3 0 l 0) = maskf m c (ix2 b l) := by
  have hp : (pointOf b).val = b.val / 2 := rfl
  have h1 : ∀ B : Vec Ideal S2x2048x1 .f32, maskA B (ix3 0 l 0) = B (ix3 0 l 0) := by
    intro B
    unfold maskA
    pointwise
  have h2 : iblk m c 4 (pointOf b) (ix3 0 l 0) = V m c main_call0_v1 (ix3 b l 0) := by blk_ext [iblk, idx (pointOf b)]
  rw [h1, h2]
  entry_read
  pointwise
  rfl

/-- The mask of an odd batch row. -/
theorem maskB_at (c : Dev nD) (b : Fin 16) (hb : ¬b.val % 2 = 0) (l : Fin 2048) :
    maskB (iblk m c 4 (pointOf b)) (ix3 0 l 0) = maskf m c (ix2 b l) := by
  have hp : (pointOf b).val = b.val / 2 := rfl
  have h1 : ∀ B : Vec Ideal S2x2048x1 .f32, maskB B (ix3 0 l 0) = B (ix3 1 l 0) := by
    intro B
    unfold maskB
    pointwise
  have h2 : iblk m c 4 (pointOf b) (ix3 1 l 0) = V m c main_call0_v1 (ix3 b l 0) := by blk_ext [iblk, idx (pointOf b)]
  rw [h1, h2]
  entry_read
  pointwise
  rfl

/-- The hidden layer's weights. -/
theorem blk5 (c : Dev nD) (t : Fin cfg0.N) (i j : Fin 1024) : iblk m c 5 t (ix2 i j) = hidden m c (ix2 i j) := by
  blk_point [iblk, V, idx t]

/-- The score vector. -/
theorem blk6 (c : Dev nD) (t : Fin cfg0.N) (j : Fin 1024) : iblk m c 6 t (ix2 0 j) = scorer m c (ix1 j) := by
  blk_point [iblk, V, idx t]

/-- The output weights. -/
theorem blk7 (c : Dev nD) (t : Fin cfg0.N) (i j : Fin 1024) :
    iblk m c 7 t (ix2 i j) = m ((c : Thread nD τ).loc main_arg4) (ix2 i j) := by
  blk_point [iblk, V, idx t]

/-- The bias. -/
theorem blk8 (c : Dev nD) (t : Fin cfg0.N) (j : Fin 1024) :
    iblk m c 8 t (ix2 0 j) = m ((c : Thread nD τ).loc main_arg5) (ix1 j) := by
  blk_point [iblk, V, idx t]

/-! ## The row values -/

/-- The unnormalised weight of one token, from its vector `x` and its mask `μ`. -/
def weightOf (x : Fin 1024 → EReal) (μ : EReal) (w : Vec Ideal S1024x1024 .bf16) (v : Vec Ideal S1x1024 .f32) : EReal :=
  Ideal.exp (∑ e : Fin 1024, Ideal.tanh (∑ d : Fin 1024, x d * w (ix2 d e)) * v (ix2 0 e)) * μ

section Rows

variable (xa xb : Vec Ideal S1x1x1024x1024 .f32) (x4 : Vec Ideal S2x2048x1 .f32) (w : Vec Ideal S1024x1024 .bf16)
  (v : Vec Ideal S1x1024 .f32)

/-- The weighted sum of an even row's tokens, half by half. -/
theorem poolA_at (d : Fin 1024) : poolA xa xb x4 w v (ix2 0 d)
    = ∑ i : Fin 1024, weightOf (fun e => xa (ix4 0 0 i e)) (maskA x4 (ix3 0 ⟨i.val, by omega⟩ 0)) w v * xa (ix4 0 0 i d)
      + ∑ i : Fin 1024, weightOf (fun e => xb (ix4 0 0 i e)) (maskA x4 (ix3 0 ⟨1024 + i.val, by omega⟩ 0)) w v * xb (ix4 0 0 i d) := by
  unfold poolA weightOf
  pointwise [k0_pay9, k0_pay4, k0_pay5, k0_pay6, k0_pay7, k0_pay3]

/-- The weighted sum of an odd row's tokens, half by half. -/
theorem poolB_at (d : Fin 1024) : poolB xa xb x4 w v (ix2 0 d)
    = ∑ i : Fin 1024, weightOf (fun e => xa (ix4 0 0 i e)) (maskB x4 (ix3 0 ⟨i.val, by omega⟩ 0)) w v * xa (ix4 0 0 i d)
      + ∑ i : Fin 1024, weightOf (fun e => xb (ix4 0 0 i e)) (maskB x4 (ix3 0 ⟨1024 + i.val, by omega⟩ 0)) w v * xb (ix4 0 0 i d) := by
  unfold poolB weightOf
  pointwise [k0_pay1, k0_pay17, k0_pay10, k0_pay11, k0_pay12, k0_pay13, k0_pay14, k0_pay15]

/-- The sum of an even row's weights, half by half. -/
theorem denA_at : denA xa xb x4 w v (ix2 0 0)
    = ∑ i : Fin 1024, weightOf (fun e => xa (ix4 0 0 i e)) (maskA x4 (ix3 0 ⟨i.val, by omega⟩ 0)) w v
      + ∑ i : Fin 1024, weightOf (fun e => xb (ix4 0 0 i e)) (maskA x4 (ix3 0 ⟨1024 + i.val, by omega⟩ 0)) w v := by
  unfold denA weightOf
  pointwise [k0_pay8, k0_pay5, k0_pay7, k0_pay3, k0_pay4, k0_pay6]
  simp

/-- The sum of an odd row's weights, half by half. -/
theorem denB_at : denB xa xb x4 w v (ix2 0 0)
    = ∑ i : Fin 1024, weightOf (fun e => xa (ix4 0 0 i e)) (maskB x4 (ix3 0 ⟨i.val, by omega⟩ 0)) w v
      + ∑ i : Fin 1024, weightOf (fun e => xb (ix4 0 0 i e)) (maskB x4 (ix3 0 ⟨1024 + i.val, by omega⟩ 0)) w v := by
  unfold denB weightOf
  pointwise [k0_pay16, k0_pay10, k0_pay11, k0_pay12, k0_pay13, k0_pay14, k0_pay15]
  simp

end Rows

/-- A sum over 2048 tokens is the sum over the first 1024 and that over the last 1024. -/
theorem sum_halves (f : Fin 2048 → EReal) :
    ∑ l, f l = ∑ i : Fin 1024, f ⟨i.val, by omega⟩ + ∑ i : Fin 1024, f ⟨1024 + i.val, by omega⟩ :=
  Fin.sum_univ_add (a := 1024) (b := 1024) f

/-- The unnormalised weight of token `l` of batch row `b`: the exponential of its score, or zero where it is masked. -/
def weight (c : Dev nD) (b : Fin 16) (l : Fin 2048) : EReal :=
  Ideal.exp (score (tokens m c) (hidden m c) (scorer m c) b l) * maskf m c (ix2 b l)

/-- A weight computed at a point from blocks is the token's weight. -/
theorem weightOf_eq (c : Dev nD) (t : Fin cfg0.N) (b : Fin 16) (l : Fin 2048) :
    weightOf (fun e => tokens m c (ix3 b l e)) (maskf m c (ix2 b l)) (iblk m c 5 t) (iblk m c 6 t) = weight m c b l := by
  unfold weightOf weight score
  simp only [blk5, blk6]

/-- Row `b` of the pooled sums is the weighted sum of the tokens of batch row `b`. -/
theorem poolAll_at (c : Dev nD) (b : Fin 16) (d : Fin 1024) :
    poolAll m c (ix2 b d) = ∑ l, weight m c b l * tokens m c (ix3 b l d) := by
  rw [sum_halves]
  by_cases hb : b.val % 2 = 0
  · refine (if_pos hb).trans ?_
    refine (poolA_at (iblk m c 0 (pointOf b)) (iblk m c 1 (pointOf b)) (iblk m c 4 (pointOf b)) (iblk m c 5 (pointOf b))
      (iblk m c 6 (pointOf b)) d).trans ?_
    simp only [blk0 m c b hb, blk1 m c b hb, maskA_at m c b hb, weightOf_eq]
  · refine (if_neg hb).trans ?_
    refine (poolB_at (iblk m c 2 (pointOf b)) (iblk m c 3 (pointOf b)) (iblk m c 4 (pointOf b)) (iblk m c 5 (pointOf b))
      (iblk m c 6 (pointOf b)) d).trans ?_
    simp only [blk2 m c b hb, blk3 m c b hb, maskB_at m c b hb, weightOf_eq]

/-- Row `b` of the sums of weights is the sum of the weights of batch row `b`. -/
theorem denAll_at (c : Dev nD) (b : Fin 16) : denAll m c (ix2 b 0) = ∑ l, weight m c b l := by
  rw [sum_halves]
  by_cases hb : b.val % 2 = 0
  · refine (if_pos hb).trans ?_
    refine (denA_at (iblk m c 0 (pointOf b)) (iblk m c 1 (pointOf b)) (iblk m c 4 (pointOf b)) (iblk m c 5 (pointOf b))
      (iblk m c 6 (pointOf b))).trans ?_
    simp only [blk0 m c b hb, blk1 m c b hb, maskA_at m c b hb, weightOf_eq]
  · refine (if_neg hb).trans ?_
    refine (denB_at (iblk m c 2 (pointOf b)) (iblk m c 3 (pointOf b)) (iblk m c 4 (pointOf b)) (iblk m c 5 (pointOf b))
      (iblk m c 6 (pointOf b))).trans ?_
    simp only [blk2 m c b hb, blk3 m c b hb, maskB_at m c b hb, weightOf_eq]

/-! ## The result -/

/-- The result array ends as the last point writes it. -/
theorem final (c : Dev nD) : (dats m 0 c).arrAt 9 cfg0.N = resultAt m c t0_7 := by
  refine (dats m 0 c).arrAt_eq_of_after_last 9 t0_7 (by decide +kernel) _ fun j => ?_
  blk_simp; rw [after0_9]

/-- The result at an index: the pooled sums divided by the sums of weights, through the output layer. -/
theorem result_at (c : Dev nD) (t : Fin cfg0.N) (b : Fin 16) (o : Fin 1024) :
    resultAt m c t (ix2 b o)
      = ∑ d : Fin 1024, Ideal.div (∑ l, weight m c b l * tokens m c (ix3 b l d)) (∑ l, weight m c b l)
          * m ((c : Thread nD τ).loc main_arg4) (ix2 d o) + m ((c : Thread nD τ).loc main_arg5) (ix1 o) := by
  have h : ∀ (P : Vec Ideal S16x1024 .f32) (D : Vec Ideal S16x1 .f32) (wr : Vec Ideal S1024x1024 .f32) (br : Vec Ideal S1x1024 .f32),
      k0_pay2 P D wr br (ix2 b o)
        = ∑ d : Fin 1024, Ideal.div (P (ix2 b d)) (D (ix2 b 0)) * wr (ix2 d o) + br (ix2 0 o) := by
    intro P D wr br
    pointwise [k0_pay2]
  unfold resultAt
  rw [h]
  simp only [poolAll_at, denAll_at, blk7, blk8]

end Cert.KernelIdeal.Pool

end

end
-- ==== Proof.Reference.lean ====
module

public import proofs.«01_k».proof.Proof.Gen.ReferenceIdeal.Frame
public import proofs.«01_k».proof.Proof.Attention

/-!
# The value of the reference

The host computes the scores, one region without a grid masks them, and the host takes the softmax, pools and applies the output
layer.  `tail` names what the host operations after the region compute, `final` what the region leaves, and `result_at` reads the
whole result at an index.
-/

@[expose] public section

set_option maxRecDepth 16384

noncomputable section

namespace Cert.ReferenceIdeal.Attend

open Cert.ReferenceIdeal Cert.ReferenceIdeal.Gen
open Idealize.ShloMosaic Idealize.ShloMosaic.TcCoe Idealize.SL.Sem
open Cert.Attention

variable {F : FTy → Type} [FloatOps F]

/-- The largest score of each row. -/
def rowMax (s : FVec F S16x2048 .f32) : FVec F S16 .f32 :=
  maximumf (broadcastInDim S16 ![] bcast_S_S16 (constant S_ FTy.f32 4286578688#32))
    (Host.reduce FloatOps.maximumf s (constant S_ FTy.f32 4286578688#32) reducesTo_S16x2048_S16_d1 h_S_)

/-- The exponentials of the scores less their row's largest. -/
def expo (s : FVec F S16x2048 .f32) : FVec F S16x2048 .f32 :=
  Host.exp (subf s (broadcastInDim S16x2048 ![0, 1] bcast_S16x1_S16x2048_0_1 (broadcastInDim S16x1 ![0] bcast_S16_S16x1_0 (rowMax s))))

/-- The sum of each row's exponentials. -/
def total (s : FVec F S16x2048 .f32) : FVec F S16 .f32 :=
  Host.reduceAdd (expo s) (constant S_ FTy.f32 0#32) reducesTo_S16x2048_S16_d1 h_S_

/-- The attention weights. -/
def attn (s : FVec F S16x2048 .f32) : FVec F S16x2048 .f32 :=
  Host.divf (expo s) (broadcastInDim S16x2048 ![0, 1] bcast_S16x1_S16x2048_0_1 (broadcastInDim S16x1 ![0] bcast_S16_S16x1_0 (total s)))

/-- The result from the masked scores `s`, the tokens, the output weights and the bias. -/
def result (s : FVec F S16x2048 .f32) (x : FVec F S16x2048x1024 .f32) (wr : FVec F S1024x1024 .f32) (br : FVec F S1024 .f32) :
    FVec F S16x1024 .f32 :=
  addf (Host.dotGeneral dot_S16x1024_S1024x1024_S16x1024_1_0_0_1_n_n none
      (Host.dotGeneral dot_S16x2048_S16x2048x1024_S16x1024_1_1_n_2_0_0 none (attn s) x) wr)
    (broadcastInDim S16x1024 ![0, 1] bcast_S1x1024_S16x1024_0_1 (broadcastInDim S1x1024 ![1] bcast_S1024_S1x1024_1 br))

variable (m : (ℓ : Loc nD τ sig) → Buf (Elt Ideal) ℓ)

/-- The masked scores the region is to leave: the score where the mask is one, −∞ elsewhere. -/
def masked (x : FVec Ideal S16x2048x1024 .f32) (μ : FVec Ideal S16x2048 .f32) (w : FVec Ideal S1024x1024 .f32) (v : FVec Ideal S1024 .f32) :
    FVec Ideal S16x2048 .f32 := fun y => if 0 < μ y then score x w v (y 0) (y 1) else ⊥

/-- The arrays the host operations after the region read: the region's result, and three arguments as launched. -/
theorem tail (c : Dev nD) : Pipeline.afterTail₀ cfgs (dats (F := Ideal) m) 0 (V0 m) [hostOps1] c main_v20
    = result (F := Ideal) ((dats m 0 c).arrAt 2 cfg0.N) (m ((c : Thread nD τ).loc main_arg0)) (m ((c : Thread nD τ).loc main_arg4))
        (m ((c : Thread nD τ).loc main_arg5)) := by
  have h4 : Pipeline.withArrays (cfgs 0).spec c (V0 m c) (fun w => (dats m 0 c).arrAt w (cfgs 0).N) (Proc.devRef .tc main_v4)
      = (dats (F := Ideal) m 0 c).arrAt 2 cfg0.N := Pipeline.withArrays_arr spec0 (by exact (by decide : Function.Injective (Pipeline.arrRef spec0))) c _ _ 2
  have e0 := (Pipeline.withArrays_of_ne spec0 c (V0 m c) (fun w => (dats m 0 c).arrAt w cfg0.N) main_arg0
    (by exact (by decide : ∀ w, Pipeline.arrRef spec0 w ≠ main_arg0))).trans (V_main_arg0 m c)
  have e4 := (Pipeline.withArrays_of_ne spec0 c (V0 m c) (fun w => (dats m 0 c).arrAt w cfg0.N) main_arg4
    (by exact (by decide : ∀ w, Pipeline.arrRef spec0 w ≠ main_arg4))).trans (V_main_arg4 m c)
  have e5 := (Pipeline.withArrays_of_ne spec0 c (V0 m c) (fun w => (dats m 0 c).arrAt w cfg0.N) main_arg5
    (by exact (by decide : ∀ w, Pipeline.arrRef spec0 w ≠ main_arg5))).trans (V_main_arg5 m c)
  unfold Pipeline.afterTail₀
  rw [show [hostOps1 (F := Ideal)].flatten = hostOps1 from rfl]
  rw [← e0, ← e4, ← e5, ← h4]
  generalize (Pipeline.withArrays (cfgs 0).spec c (V0 m c) fun w => (dats m 0 c).arrAt w (cfgs 0).N) = G at *
  unfold result attn total expo rowMax
  after_results

/-- The row maximum at an index. -/
theorem rowMax_at (s : FVec Ideal S16x2048 .f32) (b : Fin 16) :
    rowMax s (ix1 b) = max ⊥ (Finset.fold max ⊥ (fun l : Fin 2048 => s (ix2 b l)) Finset.univ) := by
  have h : Ideal.ofBits FTy.f32 4286578688#32 = ⊥ := by
    simp [Ideal.ofBits, Ideal.ieee]
  pointwise [rowMax]
  rw [h]

/-- The shifted exponentials at an index. -/
theorem expo_at (s : FVec Ideal S16x2048 .f32) (b : Fin 16) (l : Fin 2048) :
    expo s (ix2 b l) = Ideal.exp (s (ix2 b l) - rowMax s (ix1 b)) := by
  pointwise [expo]

/-- Their sums at an index. -/
theorem total_at (s : FVec Ideal S16x2048 .f32) (b : Fin 16) :
    total s (ix1 b) = ∑ l, Ideal.exp (s (ix2 b l) - rowMax s (ix1 b)) := by
  pointwise [total, expo_at]

/-- The result at an index. -/
theorem result_at (s : FVec Ideal S16x2048 .f32) (x : FVec Ideal S16x2048x1024 .f32) (wr : FVec Ideal S1024x1024 .f32)
    (br : FVec Ideal S1024 .f32) (b : Fin 16) (o : Fin 1024) :
    result s x wr br (ix2 b o) = ∑ d, (∑ l, Ideal.div (Ideal.exp (s (ix2 b l) - rowMax s (ix1 b)))
      (∑ j, Ideal.exp (s (ix2 b j) - rowMax s (ix1 b))) * x (ix3 b l d)) * wr (ix2 d o) + br (ix1 o) := by
  pointwise [result, attn, expo_at, total_at]

/-- The one point's index maps. -/
theorem idx : ∀ t : Fin cfg0.N, win0_0.index t = ![0, 0] ∧ win0_1.index t = ![0, 0] ∧ win0_2.index t = ![0, 0] :=
  (by decide +kernel : ∀ t : Fin grid0.N, _)

/-- The region finds the scores in its first window. -/
theorem blk_scores (c : Dev nD) (b : Fin 16) (l : Fin 2048) : iblk (F := Ideal) m c 0 t0_0 (ix2 b l)
    = score (m ((c : Thread nD τ).loc main_arg0)) (m ((c : Thread nD τ).loc main_arg2)) (m ((c : Thread nD τ).loc main_arg3)) b l := by
  have h : iblk (F := Ideal) m c 0 t0_0 (ix2 b l) = V m c main_v3 (ix2 b l) := by blk_ext [iblk, idx t0_0]
  have e : V m c main_v3 = Host.dotGeneral (φ₁ := .f32) (φ₂ := .f32) dot_S16x2048x1024_S1024_S16x2048_2_0_01_n_n_n none
      (Host.tanh (Host.dotGeneral (F := Ideal) (φ₁ := .f32) (φ₂ := .f32)
        dot_S16x2048x1024_S1024x1024_S16x2048x1024_2_0_01_1_n_n none (m ((c : Thread nD τ).loc main_arg0)) (m ((c : Thread nD τ).loc main_arg2))))
      (m ((c : Thread nD τ).loc main_arg3)) := by
    unfold V V0
    rw [show [hostOps0 (F := Ideal)].flatten = hostOps0 from rfl]
    after_results
  rw [h, e]
  pointwise [score]

/-- The region finds the mask as numbers in its second window. -/
theorem blk_mask (c : Dev nD) (b : Fin 16) (l : Fin 2048) : iblk (F := Ideal) m c 1 t0_0 (ix2 b l)
    = uitofp (F := Ideal) .f32 (m ((c : Thread nD τ).loc main_arg1)) (ix2 b l) := by
  have h : iblk (F := Ideal) m c 1 t0_0 (ix2 b l) = V m c main_v0 (ix2 b l) := by blk_ext [iblk, idx t0_0]
  rw [h]
  entry_read
  rfl

/-- The region leaves the masked scores. -/
theorem final (c : Dev nD) : (dats (F := Ideal) m 0 c).arrAt 2 cfg0.N
    = masked (m ((c : Thread nD τ).loc main_arg0)) (uitofp (F := Ideal) .f32 (m ((c : Thread nD τ).loc main_arg1)))
        (m ((c : Thread nD τ).loc main_arg2)) (m ((c : Thread nD τ).loc main_arg3)) := by
  refine (dats m 0 c).arrAt_eq_of_after_last 2 t0_0 (by decide +kernel) _ fun j => ?_
  blk_simp; rw [after0_2]; frame_out
  have h : Named.named (F := Ideal) κ "mask" (φ := .f32) 3463342888#32 = (⊥ : EReal) := rfl
  idx_vars j
  have hp : ∀ a b : Vec Ideal S16x2048 .f32, k0_pay1 a b (ix2 j0 j1) = if 0 < a (ix2 j0 j1) then b (ix2 j0 j1) else ⊥ := by
    intro a b
    pointwise [k0_pay1]
    rw [h]
  rw [hp, blk_scores, blk_mask]
  rfl

end Cert.ReferenceIdeal.Attend

end

end
-- ==== Proof.Precondition.lean ====
module

public import proofs.«01_k».proof.Pre_rows_attended
public import proofs.«01_k».proof.Proof.Attention

/-!
# The precondition, read

`rows_attended` says that every batch row keeps at least one token and that every entry of the score vector is finite.
-/

@[expose] public section

set_option maxRecDepth 16384

noncomputable section

namespace Cert.Pre_rows_attended

open Idealize.ShloMosaic

/-- The side conditions of the precondition's operations. -/
theorem facts : Facts where
  reducesTo_S16x2048_S16_d1 := by decide
  h_S_ := by decide
  reducesTo_S16_S_d0 := by decide
  bcast_S_S1024 := by decide
  reducesTo_S1024_S_d0 := by decide

/-- A conjunction of two bits is one only if both are. -/
theorem andi_one {a b : BitVec 1} (h : IntOp.andi a b = 1#1) : a = 1#1 ∧ b = 1#1 := by
  revert a b; decide

/-- A conjunction of bits is one only if every bit is. -/
theorem fold_andi {ι : Type} (t : Finset ι) (f : ι → BitVec 1) (h : Finset.fold IntOp.andi (1#1) f t = 1#1) :
    ∀ i ∈ t, f i = 1#1 := by
  classical
  induction t using Finset.induction_on with
  | empty => simp
  | insert a t ha ih =>
    rw [Finset.fold_insert ha] at h
    obtain ⟨h1, h2⟩ := andi_one h
    intro i hi
    rcases Finset.mem_insert.mp hi with rfl | hi
    · exact h1
    · exact ih h2 i hi

/-- A disjunction of bits is one only if some bit is. -/
theorem fold_ori {ι : Type} (t : Finset ι) (f : ι → BitVec 1) (h : Finset.fold IntOp.ori (0#1) f t = 1#1) :
    ∃ i ∈ t, f i = 1#1 := by
  classical
  induction t using Finset.induction_on with
  | empty => exact absurd h (by simp)
  | insert a t ha ih =>
    rw [Finset.fold_insert ha] at h
    have ho : ∀ a b : BitVec 1, IntOp.ori a b = 1#1 → a = 1#1 ∨ b = 1#1 := by decide
    rcases ho _ _ h with h | h
    · exact ⟨a, Finset.mem_insert_self a t, h⟩
    · obtain ⟨i, hi, e⟩ := ih h
      exact ⟨i, Finset.mem_insert_of_mem hi, e⟩

/-- An extended real whose absolute value is below +∞ is a real number. -/
theorem real_of_abs (x : EReal) (h : BitVec.ofBool (decide (FloatOps.absf (F := Ideal) (φ := .f32) x < Ideal.ofBits FTy.f32 2139095040#32)) = 1#1) :
    ∃ r : ℝ, x = (r : EReal) := by
  have ht : Ideal.ofBits FTy.f32 2139095040#32 = ⊤ := by simp [Ideal.ofBits, Ideal.ieee]
  rw [ht] at h
  induction x using EReal.rec with
  | bot => exact absurd h (by simp [FloatOps.absf])
  | top => exact absurd h (by simp [FloatOps.absf])
  | coe x => exact ⟨x, rfl⟩

/-- What the precondition says of the mask and of the score vector. -/
theorem read [Facts] (x : FVec Ideal S16x2048x1024 .f32) (μ : IVec S16x2048 1) (w : FVec Ideal S1024x1024 .f32)
    (v : FVec Ideal S1024 .f32) (wr : FVec Ideal S1024x1024 .f32) (br : FVec Ideal S1024 .f32)
    (h : fn (F := Ideal) x μ w v wr br = fun _ => 1#1) :
    (∀ b : Fin 16, ∃ l : Fin 2048, μ (ix2 b l) = 1#1) ∧ ∀ e : Fin 1024, ∃ r : ℝ, v (ix1 e) = (r : EReal) := by
  have h0 : fn (F := Ideal) x μ w v wr br ix0 = 1#1 := by rw [h]
  have e : fn (F := Ideal) x μ w v wr br ix0 = IntOp.andi
      (Finset.fold IntOp.andi (1#1) (fun b : Fin 16 => Finset.fold IntOp.ori (0#1) (fun l : Fin 2048 => μ (ix2 b l)) Finset.univ) Finset.univ)
      (Finset.fold IntOp.andi (1#1) (fun k : Fin 1024 =>
        BitVec.ofBool (decide (FloatOps.absf (F := Ideal) (φ := .f32) (v (ix1 k)) < Ideal.ofBits FTy.f32 2139095040#32))) Finset.univ) := by
    pointwise [fn]
  obtain ⟨h1, h2⟩ := andi_one (e ▸ h0)
  refine ⟨fun b => ?_, fun k => real_of_abs _ (fold_andi _ _ h2 k (Finset.mem_univ k))⟩
  obtain ⟨l, _, hl⟩ := fold_ori _ _ (fold_andi _ _ h1 b (Finset.mem_univ b))
  exact ⟨l, hl⟩

end Cert.Pre_rows_attended

end

end
-- ==== Proof.lean ====
module

public import proofs.«01_k».proof.Defs
public import proofs.«01_k».proof.Proof.Printed
public import proofs.«01_k».proof.Proof.Value
public import proofs.«01_k».proof.Proof.Reference
public import proofs.«01_k».proof.Proof.Precondition

/-!
# The claim

The kernel as printed and both idealized programs terminate and leave their arguments unchanged with every counter at zero, and
from memories that agree on the arguments and satisfy `rows_attended` the idealized kernel and the idealized reference end with
the same result.
-/

@[expose] public section

noncomputable section

namespace Cert.Proof

open Idealize.ShloMosaic Idealize.ShloMosaic.TcCoe Idealize.SL.Sem

/-- A mask bit as a number is zero or one. -/
theorem bit_cases (β : BitVec 1) : FloatOps.uitofp (F := Ideal) .f32 β = (0 : EReal) ∨ FloatOps.uitofp (F := Ideal) .f32 β = (1 : EReal) := by
  have h : β = 0#1 ∨ β = 1#1 := by revert β; decide
  rcases h with rfl | rfl
  · left; simp [FloatOps.uitofp]
  · right; simp [FloatOps.uitofp]

/-- The masked, normalised sums of the reference are the kernel's sums with one division, and both go through the same output
layer: with every row attended and a real score vector the two results agree at every index. -/
theorem value (m : (ℓ : Loc Cert.KernelIdeal.nD Cert.KernelIdeal.τ Cert.KernelIdeal.sig) → Buf (Elt Ideal) ℓ)
    (hpre : @Cert.Pre_KernelIdeal_rows_attended Cert.Pre_rows_attended.facts m) (c : Dev Cert.KernelIdeal.nD) (t : Fin Cert.KernelIdeal.cfg0.N) :
    Cert.ReferenceIdeal.Attend.result (F := Ideal)
      (Cert.ReferenceIdeal.Attend.masked (Cert.KernelIdeal.Pool.tokens m c) (Cert.KernelIdeal.Pool.maskf m c)
        (Cert.KernelIdeal.Pool.hidden m c) (Cert.KernelIdeal.Pool.scorer m c))
      (Cert.KernelIdeal.Pool.tokens m c) (m ((c : Thread Cert.KernelIdeal.nD Cert.KernelIdeal.τ).loc Cert.KernelIdeal.main_arg4))
      (m ((c : Thread Cert.KernelIdeal.nD Cert.KernelIdeal.τ).loc Cert.KernelIdeal.main_arg5))
    = Cert.KernelIdeal.Pool.resultAt m c t := by
  obtain ⟨hrow, hv⟩ := @Cert.Pre_rows_attended.read Cert.Pre_rows_attended.facts _ _ _ _ _ _ (hpre c)
  funext y
  obtain ⟨b, o, rfl⟩ : ∃ (b : Fin 16) (o : Fin 1024), y = ix2 b o := ⟨y 0, y 1, by idx_vars y⟩
  rw [Cert.ReferenceIdeal.Attend.result_at, Cert.KernelIdeal.Pool.result_at]
  have hs := Cert.Attention.score_real (Cert.KernelIdeal.Pool.tokens m c) (Cert.KernelIdeal.Pool.hidden m c)
    (Cert.KernelIdeal.Pool.scorer m c) hv b
  have hμ : ∀ l : Fin 2048, Cert.KernelIdeal.Pool.maskf m c (ix2 b l) = 0 ∨ Cert.KernelIdeal.Pool.maskf m c (ix2 b l) = 1 :=
    fun l => bit_cases _
  have hex : ∃ l : Fin 2048, Cert.KernelIdeal.Pool.maskf m c (ix2 b l) = 1 := by
    obtain ⟨l, hl⟩ := hrow b
    refine ⟨l, ?_⟩
    show FloatOps.uitofp (F := Ideal) .f32 _ = (1 : EReal)
    rw [hl]; simp [FloatOps.uitofp]
  congr 1
  refine Finset.sum_congr rfl fun d _ => ?_
  congr 1
  refine (Cert.Attention.pool_eq _ _ _ hs hμ hex _ ?_).symm
  rw [Cert.ReferenceIdeal.Attend.rowMax_at]
  have hm : ∀ l : Fin 2048, Cert.ReferenceIdeal.Attend.masked (Cert.KernelIdeal.Pool.tokens m c) (Cert.KernelIdeal.Pool.maskf m c)
      (Cert.KernelIdeal.Pool.hidden m c) (Cert.KernelIdeal.Pool.scorer m c) (ix2 b l)
      = if 0 < Cert.KernelIdeal.Pool.maskf m c (ix2 b l) then Cert.Attention.score (Cert.KernelIdeal.Pool.tokens m c)
          (Cert.KernelIdeal.Pool.hidden m c) (Cert.KernelIdeal.Pool.scorer m c) b l else ⊥ := fun _ => rfl
  refine Cert.Attention.max_real _ (fun l => ?_) ?_
  · rw [hm]
    obtain ⟨r, hr⟩ := hs l
    split
    · rw [hr]; exact EReal.coe_ne_top r
    · exact bot_ne_top
  · obtain ⟨l, hl⟩ := hex
    obtain ⟨r, hr⟩ := hs l
    refine ⟨l, ?_⟩
    rw [hm, hl, if_pos zero_lt_one, hr]
    exact EReal.coe_ne_bot r

/-- From memories that agree on the arguments, with every row attended, the two programs end with the same result. -/
theorem algebraic : @Cert.algebraic_KernelIdeal_ReferenceIdeal_pre_rows_attended Cert.KernelIdeal.Gen.facts Cert.ReferenceIdeal.Gen.facts
    Cert.Pre_rows_attended.facts := by
  unfold algebraic_KernelIdeal_ReferenceIdeal_pre_rows_attended
  pair_intro
  · run_from Cert.KernelIdeal.Pool.run_main m g
  · run_from Cert.ReferenceIdeal.Gen.run_main m' g'
    · rw [Cert.ReferenceIdeal.Attend.tail, Cert.ReferenceIdeal.Attend.final, (hagree c).1, (hagree c).2.1, (hagree c).2.2.1,
        (hagree c).2.2.2.1, (hagree c).2.2.2.2.1, (hagree c).2.2.2.2.2]
      exact (value m hpre c _).trans (Cert.KernelIdeal.Pool.final m c).symm
    · exact (Cert.ReferenceIdeal.Gen.W_main_arg0 m' _ c).trans (hagree c).1
    · exact (Cert.ReferenceIdeal.Gen.W_main_arg1 m' _ c).trans (hagree c).2.1
    · exact (Cert.ReferenceIdeal.Gen.W_main_arg2 m' _ c).trans (hagree c).2.2.1
    · exact (Cert.ReferenceIdeal.Gen.W_main_arg3 m' _ c).trans (hagree c).2.2.2.1
    · exact (Cert.ReferenceIdeal.Gen.W_main_arg4 m' _ c).trans (hagree c).2.2.2.2.1
    · exact (Cert.ReferenceIdeal.Gen.W_main_arg5 m' _ c).trans (hagree c).2.2.2.2.2

/-- All five claims. -/
theorem claim : Cert.Claim :=
  ⟨Cert.Kernel.Gen.facts, Cert.KernelIdeal.Gen.facts, Cert.ReferenceIdeal.Gen.facts, Cert.Pre_rows_attended.facts,
    kernel_frame, fun m g _ => Cert.KernelIdeal.Pool.frame m g, fun m g _ => Cert.KernelIdeal.Pool.frame m g,
    fun m g _ => Cert.ReferenceIdeal.Gen.frame m g, fun m g _ => Cert.ReferenceIdeal.Gen.frame m g, trivial, algebraic⟩

end Cert.Proof

end

end
